-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S64x1 : Shape := ⟨2, ![64, 1]⟩
abbrev S2x16384 : Shape := ⟨2, ![2, 16384]⟩
abbrev S1024x2048 : Shape := ⟨2, ![1024, 2048]⟩
abbrev S2x2048 : Shape := ⟨2, ![2, 2048]⟩
abbrev S64x1024 : Shape := ⟨2, ![64, 1024]⟩
abbrev S1024 : Shape := ⟨1, ![1024]⟩
abbrev S1x1024 : Shape := ⟨2, ![1, 1024]⟩
abbrev S2x1024 : Shape := ⟨2, ![2, 1024]⟩
abbrev S16384x2 : Shape := ⟨2, ![16384, 2]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S64x1, .f32⟩
  | .hbm, ⟨4, _⟩ => ⟨S2x16384, .f32⟩
  | .hbm, ⟨5, _⟩ => ⟨S2x16384, .i32⟩
  | .hbm, ⟨6, _⟩ => ⟨S16384x2, .f32⟩
  | .hbm, ⟨7, _⟩ => ⟨S16384x2, .i32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x1, .f32⟩
  | .local _ .vmem, ⟨6, _⟩ => ⟨S2x2048, .f32⟩
  | .local _ .vmem, ⟨7, _⟩ => ⟨S2x2048, .f32⟩
  | .local _ .vmem, ⟨8, _⟩ => ⟨S2x2048, .i32⟩
  | .local _ .vmem, ⟨9, _⟩ => ⟨S2x2048, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x64, .f32⟩
  | .hbm, ⟨24, _⟩ => ⟨S16384x64, .f32⟩
  | .hbm, ⟨25, _⟩ => ⟨S16384x2, .f32⟩
  | .hbm, ⟨26, _⟩ => ⟨S16384x2, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩

abbrev nD : Nat := 1
abbrev τ : Topo := Topo.v7x

variable {F : FTy → Type} [FloatOps F]
-- ==== Proof.TopTwo.lean ====
/- The two greatest of 64 real logits, ties to the lower position: what the row-wise maximum, minimum and mask
   operations of the kernel compute of them, and where a stable descending sort of their softmax puts them. -/
module

public import Idealize.ShloMosaic.Lib.SortPrefix
public import Idealize.ShloMosaic.PureOps.Ideal

@[expose] public section

noncomputable section

namespace Cert.TopTwo

open Idealize.ShloMosaic

/-- A position among the 64 as an extended real, which is how the kernel carries it. -/
def pos (k : Fin 64) : EReal := ((k.val : ℝ) : EReal)

/-- `i` is the first position of a greatest entry of `L`. -/
structure IsFirst (L : Fin 64 → EReal) (i : Fin 64) : Prop where
  le : ∀ k, L k ≤ L i
  lt : ∀ k, k < i → L k < L i

/-- `j` is the first position of a greatest entry of `L` among the positions other than `i`. -/
structure IsSecond (L : Fin 64 → EReal) (i j : Fin 64) : Prop where
  ne : j ≠ i
  le : ∀ k, k ≠ i → L k ≤ L j
  lt : ∀ k, k < j → k ≠ i → L k < L j

/-- `L` with −∞ in place of the entry at `i`. -/
def masked (L : Fin 64 → EReal) (i : Fin 64) : Fin 64 → EReal := fun k => if k = i then ⊥ else L k

/-- Positions are ordered as their floats are. -/
theorem pos_le {k l : Fin 64} : pos k ≤ pos l ↔ k ≤ l := by
  unfold pos
  rw [EReal.coe_le_coe_iff, Nat.cast_le, Fin.le_def]

/-- Different positions have different floats. -/
theorem pos_inj {k l : Fin 64} : pos k = pos l ↔ k = l := by
  unfold pos
  rw [EReal.coe_eq_coe_iff, Nat.cast_inj, Fin.ext_iff]

/-- The signed 32-bit word of a position, converted to a float, is the position. -/
theorem sitofp_pos (k : Fin 64) : (((BitVec.ofNat 32 k.val).toInt : ℝ) : EReal) = pos k := by
  have h : (BitVec.ofNat 32 k.val).toInt = (k.val : ℤ) := by revert k; decide
  unfold pos
  rw [h]
  norm_cast

/-- A position converted back to a signed 32-bit word is the position's word. -/
theorem fptosi_pos (k : Fin 64) : Ideal.fptosi 32 (pos k) = BitVec.ofNat 32 k.val := by
  have h1 : (0:ℝ) ≤ (k.val : ℝ) := Nat.cast_nonneg _
  unfold Ideal.fptosi pos
  rw [Ideal.toIntClamped_coe, if_pos h1, Int.floor_natCast]
  clear h1
  revert k
  decide

/-- The pattern 64.0 is the real 64. -/
theorem sixtyFour : Ideal.ofBits .f32 0x42800000#32 = ((64 : ℝ) : EReal) := by
  simp [Ideal.ofBits, Ideal.ieee]
  rw [← EReal.coe_mul]
  norm_num

/-- This bit pattern is −∞. -/
theorem negInf : Ideal.ofBits .f32 0xFF800000#32 = ⊥ := by
  simp [Ideal.ofBits, Ideal.ieee]

/-- This bit pattern is +∞. -/
theorem posInf : Ideal.ofBits .f32 0x7F800000#32 = ⊤ := by
  simp [Ideal.ofBits, Ideal.ieee]

/-- Every 64 entries have a first greatest one. -/
theorem exists_first (L : Fin 64 → EReal) : ∃ i, IsFirst L i := by
  obtain ⟨a, ha⟩ := Finite.exists_max L
  obtain ⟨i, hi, hmin⟩ := (wellFounded_lt (α := Fin 64)).has_min {i | ∀ k, L k ≤ L i} ⟨a, ha⟩
  refine ⟨i, hi, fun k hk => lt_of_le_of_ne (hi k) fun e => ?_⟩
  exact hmin k (fun l => e ▸ hi l) hk

/-- The maximum of the entries, started from −∞, is the first greatest entry. -/
theorem fold_max {L : Fin 64 → EReal} {i : Fin 64} (h : IsFirst L i) :
    Finset.fold max ⊥ L Finset.univ = L i :=
  le_antisymm (Finset.fold_max_le (L i) |>.mpr ⟨bot_le, fun k _ => h.le k⟩)
    (Finset.le_fold_max (L i) |>.mpr (Or.inr ⟨i, Finset.mem_univ i, le_rfl⟩))

/-- The minimum, over the entries equal to the greatest, of their positions (64 standing for every other entry) is
    the first greatest entry's position. -/
theorem fold_min {L : Fin 64 → EReal} {i : Fin 64} (h : IsFirst L i) :
    Finset.fold min ⊤ (fun k => if L k = L i then pos k else ((64 : ℝ) : EReal)) Finset.univ = pos i := by
  refine le_antisymm ((Finset.fold_min_le (pos i)).mpr (Or.inr ⟨i, Finset.mem_univ i, ?_⟩))
    ((Finset.le_fold_min (pos i)).mpr ⟨le_top, fun k _ => ?_⟩)
  · rw [if_pos rfl]
  · split
    · next e => exact pos_le.mpr (not_lt.mp fun hk => (h.lt k hk).ne e)
    · unfold pos
      rw [EReal.coe_le_coe_iff]
      exact_mod_cast i.isLt.le

/-- With no entry −∞, the first greatest entry of the masked logits is the second of the logits. -/
theorem IsFirst.second {L : Fin 64 → EReal} {i j : Fin 64} (hL : ∀ k, L k ≠ ⊥) (h : IsFirst (masked L i) j) :
    IsSecond L i j := by
  have hne : j ≠ i := by
    rintro rfl
    obtain ⟨k, hk⟩ : ∃ k : Fin 64, k ≠ j := exists_ne j
    have := h.le k
    simp only [masked, if_neg hk, if_pos] at this
    exact hL k (le_bot_iff.mp this)
  refine ⟨hne, fun k hk => ?_, fun k hkj hk => ?_⟩
  · have := h.le k
    simpa only [masked, if_neg hk, if_neg hne] using this
  · have := h.lt k hkj
    simpa only [masked, if_neg hk, if_neg hne] using this

/-- Away from the masked position the masked logits are the logits. -/
theorem masked_of_ne {L : Fin 64 → EReal} {i j : Fin 64} (h : j ≠ i) : masked L i j = L j := if_neg h

/-! ## The softmax of the logits -/

/-- The softmax of `L`, taken from the logits less the entry at `i`. -/
def soft (L : Fin 64 → EReal) (i k : Fin 64) : EReal :=
  Ideal.div (Ideal.exp (L k - L i)) (∑ l, Ideal.exp (L l - L i))

/-- The sum of the exponentials of real logits is a positive real. -/
theorem sum_exp (ℓ : Fin 64 → ℝ) (i : Fin 64) :
    ∃ s : ℝ, 0 < s ∧ ∑ l, Ideal.exp ((ℓ l : EReal) - (ℓ i : EReal)) = (s : EReal) := by
  refine ⟨∑ l, Real.exp (ℓ l - ℓ i), Finset.sum_pos (fun l _ => Real.exp_pos _) ⟨0, Finset.mem_univ _⟩, ?_⟩
  have : ∀ l, Ideal.exp ((ℓ l : EReal) - (ℓ i : EReal)) = ((Real.exp (ℓ l - ℓ i) : ℝ) : EReal) := fun l => by
    rw [← EReal.coe_sub]; rfl
  simp only [this]
  exact (map_sum (⟨⟨Real.toEReal, EReal.coe_zero⟩, EReal.coe_add⟩ : ℝ →+ EReal) _ _).symm

/-- A softmax entry as the kernel writes it: the exponential times the reciprocal of the sum. -/
theorem soft_eq {L : Fin 64 → EReal} (hL : ∀ k, ∃ x : ℝ, L k = (x : EReal)) (i k : Fin 64) :
    soft L i k = Ideal.exp (L k - L i) * Ideal.div 1 (∑ l, Ideal.exp (L l - L i)) := by
  choose ℓ hℓ using hL
  obtain rfl : L = fun k => (ℓ k : EReal) := funext hℓ
  obtain ⟨s, hs, e⟩ := sum_exp ℓ i
  unfold soft
  simp only [e]
  rw [Ideal.div_coe hs.ne', Ideal.div_coe hs.ne', one_mul]

/-- The softmax entry at the subtracted position is the reciprocal of the sum. -/
theorem soft_self {L : Fin 64 → EReal} (hL : ∀ k, ∃ x : ℝ, L k = (x : EReal)) (i : Fin 64) :
    soft L i i = Ideal.div 1 (∑ l, Ideal.exp (L l - L i)) := by
  obtain ⟨x, hx⟩ := hL i
  have h : Ideal.exp (L i - L i) = 1 := by
    rw [hx, ← EReal.coe_sub, sub_self]
    show ((Real.exp 0 : ℝ) : EReal) = 1
    rw [Real.exp_zero]; rfl
  rw [soft_eq hL, h, one_mul]

/-- The softmax orders the positions as the logits do. -/
theorem soft_lt {L : Fin 64 → EReal} (hL : ∀ k, ∃ x : ℝ, L k = (x : EReal)) (i k l : Fin 64) :
    soft L i k < soft L i l ↔ L k < L l := by
  choose ℓ hℓ using hL
  obtain rfl : L = fun k => (ℓ k : EReal) := funext hℓ
  obtain ⟨s, hs, e⟩ := sum_exp ℓ i
  have h : ∀ k, soft (fun k => (ℓ k : EReal)) i k = ((Real.exp (ℓ k - ℓ i) * (1 / s) : ℝ) : EReal) := fun k => by
    unfold soft
    simp only [e]
    rw [Ideal.div_coe hs.ne', ← EReal.coe_sub, EReal.coe_mul]; rfl
  rw [h, h, EReal.coe_lt_coe_iff, EReal.coe_lt_coe_iff, mul_lt_mul_iff_left₀ (by positivity), Real.exp_lt_exp,
    sub_lt_sub_iff_right]

/-! ## The two results of a row -/

/-- The first position of a greatest entry. -/
def first (L : Fin 64 → EReal) : Fin 64 := (exists_first L).choose

/-- The first position of a greatest entry among the others. -/
def second (L : Fin 64 → EReal) : Fin 64 := (exists_first (masked L (first L))).choose

/-- `first L` is the first position of the greatest entry. -/
theorem isFirst (L : Fin 64 → EReal) : IsFirst L (first L) := (exists_first L).choose_spec

/-- `second L` is the first position of the greatest entry once the first one is masked. -/
theorem isFirst_masked (L : Fin 64 → EReal) : IsFirst (masked L (first L)) (second L) :=
  (exists_first (masked L (first L))).choose_spec

/-- For real entries `second L` is the first position of the greatest entry other than `first L`. -/
theorem isSecond {L : Fin 64 → EReal} (hL : ∀ k, ∃ x : ℝ, L k = (x : EReal)) : IsSecond L (first L) (second L) :=
  (isFirst_masked L).second fun k e => by
    obtain ⟨x, hx⟩ := hL k
    exact EReal.coe_ne_bot x (hx ▸ e)

/-- The position of the greatest entry (`s = 0`) or of the second (`s = 1`). -/
def top (L : Fin 64 → EReal) (s : Fin 2) : Fin 64 := if s = 0 then first L else second L

/-- The softmax entry at the greatest logit (`s = 0`) or at the second (`s = 1`). -/
def topVal (L : Fin 64 → EReal) (s : Fin 2) : EReal := soft L (first L) (top L s)

/-- The position of the greatest logit or of the second, as a 32-bit word. -/
def topPos (L : Fin 64 → EReal) (s : Fin 2) : BitVec 32 := BitVec.ofNat 32 (top L s).val

/-! ## The stable sort -/

/-- Two comparators that agree on every later element against an earlier one sort a list alike: the sort compares in
    that order only. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Comparators that sort the positions alike send every output position to one source. -/
theorem sortedFrom_of_sortPositions {n : Nat} {R R' : Fin n → Fin n → Bool}
    (e : sortPositions n R = sortPositions n R') : sortedFrom R = sortedFrom R' := by
  funext k
  unfold sortedFrom
  rw [List.get_of_eq e]
  rfl

/-- A stable descending sort of 64 keys, started from the order of the positions, puts the first greatest key's
    position at 0 and the second's at 1. -/
theorem sorted_two {P : Fin 64 → EReal} {i j : Fin 64} (hi : IsFirst P i) (hj : IsSecond P i j) (s : Fin 2)
    (h : s.val < 64) :
    sortedFrom (fun k k' => Ideal.cmpTotal .gt (P k) (P k') == 1#1) ⟨s.val, h⟩ = if s = 0 then i else j := by
  have hB := StrictTotalBefore.of_key_then_position (n := 64) (fun a b : EReal => decide (b < a)) P
    (fun a => by simp) (fun a b c => by simpa using fun h1 h2 => lt_trans h2 h1)
    (fun a b => by
      simp only [decide_eq_true_eq]
      rcases lt_trichotomy a b with h | h | h
      · exact Or.inr (Or.inr h)
      · exact Or.inr (Or.inl h)
      · exact Or.inl h)
  have hcongr : (sortedFrom fun k k' => Ideal.cmpTotal .gt (P k) (P k') == 1#1)
      = sortedFrom fun k k' => decide (P k' < P k) || (decide (P k = P k') && decide (k < k')) := by
    have e : (sortPositions 64 fun k k' => Ideal.cmpTotal .gt (P k) (P k') == 1#1)
        = sortPositions 64 fun k k' => decide (P k' < P k) || (decide (P k = P k') && decide (k < k')) :=
      stableSort_congr_later _ _ (List.finRange 64) ((List.pairwise_lt_finRange 64).imp fun {a b} hab => by
        show (BitVec.ofBool (decide (P a < P b)) == 1#1) = _
        rw [decide_eq_false (not_lt.mpr hab.le), Bool.and_false, Bool.or_false]
        cases decide (P a < P b) <;> rfl)
    exact sortedFrom_of_sortPositions e
  rw [hcongr]
  refine (hB.sortedFrom_eq_of_prefix (k := 2) (by decide) (fun s => if s = 0 then i else j) ?_ ?_ ?_ s)
  · intro a b hab
    fin_cases a <;> fin_cases b <;> simp_all [hj.ne, hj.ne.symm]
  · intro a b hab
    obtain ⟨rfl, rfl⟩ : a = 0 ∧ b = 1 := by revert a b; decide
    simp only [if_pos, one_ne_zero, if_false, Bool.or_eq_false_iff, Bool.and_eq_false_iff, decide_eq_false_iff_not, not_lt]
    refine ⟨hi.le j, ?_⟩
    by_cases hlt : j < i
    · exact Or.inl (hi.lt j hlt).ne
    · exact Or.inr (not_lt.mp hlt)
  · intro a p hp
    have hpi : p ≠ i := fun e => hp 0 (by simp [e])
    have hpj : p ≠ j := fun e => hp 1 (by simp [e])
    simp only [Bool.or_eq_false_iff, Bool.and_eq_false_iff, decide_eq_false_iff_not, not_lt]
    fin_cases a
    · simp only [Fin.zero_eta, if_pos]
      refine ⟨hi.le p, ?_⟩
      by_cases hlt : p < i
      · exact Or.inl (hi.lt p hlt).ne
      · exact Or.inr (not_lt.mp hlt)
    · simp only [Fin.mk_one, one_ne_zero, if_false]
      refine ⟨hj.le p hpi, ?_⟩
      by_cases hlt : p < j
      · exact Or.inl (hj.lt p hlt hpi).ne
      · exact Or.inr (not_lt.mp hlt)

/-- A stable descending sort of the softmax puts the position of the greatest logit at 0 and that of the second at 1. -/
theorem sorted_soft {L : Fin 64 → EReal} (hL : ∀ k, ∃ x : ℝ, L k = (x : EReal)) (s : Fin 2) (h : s.val < 64) :
    sortedFrom (fun k k' => Ideal.cmpTotal .gt (soft L (first L) k) (soft L (first L) k') == 1#1) ⟨s.val, h⟩ = top L s := by
  have h1 := isFirst L
  have h2 := isSecond hL
  have le : ∀ k l, L k ≤ L l → soft L (first L) k ≤ soft L (first L) l := fun k l e =>
    not_lt.mp fun h => not_lt.mpr e ((soft_lt hL _ _ _).mp h)
  exact sorted_two (P := soft L (first L))
    ⟨fun k => le _ _ (h1.le k), fun k hk => (soft_lt hL _ _ _).mpr (h1.lt k hk)⟩
    ⟨h2.ne, fun k hk => le _ _ (h2.le k hk), fun k hk hne => (soft_lt hL _ _ _).mpr (h2.lt k hk hne)⟩ s h

end Cert.TopTwo
-- ==== Proof.Finite.lean ====
/- What the precondition says: every entry of the three arguments is a real number. -/
module

public import proofs.«01_k».proof.Defs
public import proofs.«01_k».proof.Proof.Gen.Pre_finite
public import proofs.«01_k».proof.Proof.TopTwo
public import Idealize.ShloMosaic.Lib.Pointwise

@[expose] public section

set_option maxRecDepth 16384

noncomputable section

namespace Cert.Finite

open Idealize.ShloMosaic
open Cert.Pre_finite

/-- A conjunction of one-bit words over a finite set of positions is 1 only if every word is. -/
theorem fold_andi {ι : Type} (s : Finset ι) (f : ι → BitVec 1) (h : Finset.fold IntOp.andi 1#1 f s = 1#1) :
    ∀ k ∈ s, f k = 1#1 := by
  classical
  have key : ∀ a b : BitVec 1, IntOp.andi a b = 1#1 → a = 1#1 ∧ b = 1#1 := by decide
  induction s using Finset.induction_on with
  | empty => intro k hk; exact absurd hk (Finset.notMem_empty k)
  | insert a s ha ih =>
    rw [Finset.fold_insert ha] at h
    obtain ⟨h1, h2⟩ := key _ _ h
    intro k hk
    rcases Finset.mem_insert.mp hk with rfl | hk
    · exact h1
    · exact ih h2 k hk

/-- A conjunction of one-bit words over every position is 1 only if every word is. -/
theorem fold_andi_univ {ι : Type} [Fintype ι] (f : ι → BitVec 1) (h : Finset.fold IntOp.andi 1#1 f Finset.univ = 1#1)
    (k : ι) : f k = 1#1 := fold_andi _ f h k (Finset.mem_univ k)

/-- An extended real whose absolute value is below +∞ is a real number. -/
theorem real_of_abs {x : EReal}
    (h : BitVec.ofBool (decide (FloatOps.absf (F := Ideal) (φ := .f32) x < Ideal.ofBits .f32 0x7F800000#32)) = 1#1) : ∃ r : ℝ, x = (r : EReal) := by
  rw [Cert.TopTwo.posInf] at h
  have h' : FloatOps.absf (F := Ideal) (φ := .f32) x < (⊤ : EReal) := by
    by_contra hn
    rw [decide_eq_false hn] at h
    exact absurd h (by decide)
  induction x using EReal.rec with
  | bot => exact absurd h' (by simp [Ideal.absf_def])
  | top => exact absurd h' (by simp [Ideal.absf_def])
  | coe r => exact ⟨r, rfl⟩

/-- The precondition makes every entry of the three arguments a real number. -/
theorem reals (X : FVec Ideal S16384x2048 .f32) (W : FVec Ideal S64x2048 .f32) (B : FVec Ideal S64 .f32)
    (h : fn X W B = fun _ => 1#1) :
    (∀ r d, ∃ x : ℝ, X (ix2 r d) = (x : EReal)) ∧ (∀ k d, ∃ x : ℝ, W (ix2 k d) = (x : EReal))
      ∧ ∀ k, ∃ x : ℝ, B (ix1 k) = (x : EReal) := by
  have key : ∀ a b : BitVec 1, IntOp.andi a b = 1#1 → a = 1#1 ∧ b = 1#1 := by decide
  have h0 := congrFun h (fun a => a.elim0)
  pointwise [fn] at h0
  obtain ⟨h01, h2⟩ := key _ _ h0
  obtain ⟨h0, h1⟩ := key _ _ h01
  have e0 := fold_andi_univ _ h0
  have e1 := fold_andi_univ _ h1
  have e2 := fold_andi_univ _ h2
  exact ⟨fun r d => real_of_abs (e0 (r, d)), fun r d => real_of_abs (e1 (r, d)), fun k => real_of_abs (e2 k)⟩

end Cert.Finite
-- ==== Proof.KernelPoint.lean ====
/- What one grid step of the kernel computes for one row: from the row's 64 logits, the two greatest and their
   positions, and their two softmax entries. -/
module

public import proofs.«01_k».proof.Proof.Gen.KernelIdeal.Skeleton
public import proofs.«01_k».proof.Proof.TopTwo
public import Idealize.ShloMosaic.Lib.Pointwise

@[expose] public section

set_option maxRecDepth 16384

noncomputable section

namespace Cert.KernelIdeal.Value

open Idealize.ShloMosaic
open Cert.KernelIdeal Cert.KernelIdeal.Gen Cert.TopTwo

/-- The kernel's logits at expert `k` and row `c`: the sum of products, plus the bias. -/
theorem logit_point (v0 : Vec Ideal S64x2048 .f32) (v1 : Vec Ideal S64x1 .f32) (v3 : Vec Ideal S1024x2048 .f32)
    (k : Fin 64) (c : Fin 1024) :
    k0_pay3 (F := Ideal) v0 v1 v3 (ix2 k c) = ∑ d, v0 (ix2 k d) * v3 (ix2 c d) + v1 (ix2 k 0) := by
  pointwise [k0_pay3, k0_pay1]

/-- The 64 logits of row `c` of a tile. -/
abbrev row (A : FVec Ideal S64x1024 .f32) (c : Fin 1024) : Fin 64 → EReal := fun k => A (ix2 k c)

section Row

variable (A : FVec Ideal S64x1024 .f32) (c : Fin 1024) (z : Fin 1)

/-- The row's maximum is its first greatest logit. -/
theorem max_point : k0_pay12 (F := Ideal) A (ix2 z c) = row A c (first (row A c)) := by
  obtain rfl : z = 0 := Subsingleton.elim _ _
  refine Eq.trans ?_ (fold_max (isFirst (row A c)))
  pointwise [k0_pay12]
  rw [negInf]

/-- The row's first position, as a float. -/
theorem first_point : k0_pay13 (F := Ideal) A (ix2 z c) = pos (first (row A c)) := by
  obtain rfl : z = 0 := Subsingleton.elim _ _
  refine Eq.trans ?_ (fold_min (isFirst (row A c)))
  pointwise [k0_pay13, k0_pay11]
  rw [max_point A c, posInf, sixtyFour]
  simp only [← sitofp_pos]
  rfl

/-- The row with its first greatest logit replaced by −∞. -/
theorem mask_point (k : Fin 64) : k0_pay14 (F := Ideal) A (ix2 k c) = masked (row A c) (first (row A c)) k := by
  pointwise [k0_pay14, k0_pay11]
  rw [first_point A c, negInf]
  have h : FloatOps.sitofp (F := Ideal) FTy.f32 (BitVec.ofNat 32 k.val) = pos k := sitofp_pos k
  rw [h]
  simp only [pos_inj]
  rfl

/-- The maximum of the masked row. -/
theorem mask_max_point : k0_pay15 (F := Ideal) A (ix2 z c) = masked (row A c) (first (row A c)) (second (row A c)) := by
  obtain rfl : z = 0 := Subsingleton.elim _ _
  refine Eq.trans ?_ (fold_max (isFirst_masked (row A c)))
  pointwise [k0_pay15]
  simp only [mask_point A c]
  rw [negInf]

variable (hA : ∀ k, ∃ x : ℝ, row A c k = (x : EReal))
include hA

/-- The maximum of the masked row is its second greatest logit. -/
theorem second_max_point : k0_pay15 (F := Ideal) A (ix2 z c) = row A c (second (row A c)) :=
  (mask_max_point A c z).trans (masked_of_ne (isSecond hA).ne)

end Row

/-- The reciprocal of a row's sum of exponentials, for the first tile. -/
theorem recip_point (v0 : Vec Ideal S64x2048 .f32) (v1 : Vec Ideal S64x1 .f32) (v3 : Vec Ideal S1024x2048 .f32)
    (c : Fin 1024) (z : Fin 1) : k0_pay10 (F := Ideal) v0 v1 v3 (ix2 z c)
      = Ideal.div 1 (∑ k, Ideal.exp (row (k0_pay3 v0 v1 v3) c k - row (k0_pay3 v0 v1 v3) c (first (row (k0_pay3 v0 v1 v3) c)))) := by
  obtain rfl : z = 0 := Subsingleton.elim _ _
  have h2 : k0_pay2 (F := Ideal) v0 v1 v3 = k0_pay3 v0 v1 v3 := rfl
  have h5 : k0_pay5 (F := Ideal) v0 v1 v3 = k0_pay12 (k0_pay3 v0 v1 v3) := rfl
  pointwise [k0_pay10]
  rw [h2, h5, max_point]

/-- The values a grid step stores: in the first 1024 columns the first tile's rows, then the second tile's. -/
theorem values_point (v0 : Vec Ideal S64x2048 .f32) (v1 : Vec Ideal S64x1 .f32) (v3 : Vec Ideal S1024x2048 .f32)
    (A : FVec Ideal S64x1024 .f32) (L : Fin 64 → EReal) (hL : ∀ k, ∃ x : ℝ, L k = (x : EReal)) (s : Fin 2) (q : Fin 2048)
    (h1 : ∀ h : q.val < 1024, row (k0_pay3 v0 v1 v3) ⟨q.val, h⟩ = L)
    (h2 : ∀ h : q.val - 1024 < 1024, ¬ q.val < 1024 → row A ⟨q.val - 1024, h⟩ = L) :
    k0_pay16 (F := Ideal) A (k0_pay5 v0 v1 v3) (k0_pay8 v0 v1 v3) (k0_pay10 v0 v1 v3) (ix2 s q) = topVal L s := by
  have h5 : k0_pay5 (F := Ideal) v0 v1 v3 = k0_pay12 (k0_pay3 v0 v1 v3) := rfl
  have h8 : k0_pay8 (F := Ideal) v0 v1 v3 = k0_pay15 (k0_pay3 v0 v1 v3) := rfl
  rw [h5, h8]
  have ha := max_point (k0_pay3 (F := Ideal) v0 v1 v3)
  have hb := fun c z => second_max_point (k0_pay3 (F := Ideal) v0 v1 v3) c z
  have hd := recip_point v0 v1 v3
  generalize k0_pay12 (k0_pay3 (F := Ideal) v0 v1 v3) = a at ha ⊢
  generalize k0_pay15 (k0_pay3 (F := Ideal) v0 v1 v3) = b at hb ⊢
  generalize k0_pay10 (F := Ideal) v0 v1 v3 = d at hd ⊢
  pointwise [k0_pay16, k0_pay11]
  by_cases hq : q.val < 1024
  · rw [dif_pos hq]
    have e := h1 hq
    have hL' : ∀ k, ∃ x : ℝ, row (k0_pay3 (F := Ideal) v0 v1 v3) ⟨q.val, hq⟩ k = (x : EReal) := by rw [e]; exact hL
    rcases (by revert s; decide : s = 0 ∨ s = 1) with rfl | rfl
    · rw [dif_pos (by decide), hd, e]
      exact (soft_self hL _).symm
    · rw [dif_neg (by decide), hd, ha, hb _ _ hL', e]
      exact (soft_eq hL _ _).symm
  · rw [dif_neg hq]
    have hq' : q.val - 1024 < 1024 := by have := q.isLt; omega
    have e := h2 hq' hq
    have hL' : ∀ k, ∃ x : ℝ, row A ⟨q.val - 1024, hq'⟩ k = (x : EReal) := by rw [e]; exact hL
    rcases (by revert s; decide : s = 0 ∨ s = 1) with rfl | rfl
    · rw [dif_pos (by decide)]
      simp only [max_point, e]
      refine Eq.trans ?_ (soft_self hL _).symm
      simp only [← e]
    · rw [dif_neg (by decide)]
      simp only [max_point, second_max_point _ _ _ hL', e]
      refine Eq.trans ?_ (soft_eq hL _ _).symm
      simp only [← e]
      rfl

/-- The minimum, over a masked row's entries equal to its maximum, of their positions, turned into a word. -/
theorem second_point (A : FVec Ideal S64x1024 .f32) (c : Fin 1024) (z : Fin 1) :
    Finset.fold min (Ideal.ofBits FTy.f32 0x7F800000#32)
      (fun k : Fin 64 => if k0_pay14 A (ix2 k c) = k0_pay15 (F := Ideal) A (ix2 z c) then FloatOps.sitofp (F := Ideal) FTy.f32 (BitVec.ofNat 32 k.val)
        else Ideal.ofBits FTy.f32 0x42800000#32) Finset.univ = pos (second (row A c)) := by
  refine Eq.trans ?_ (fold_min (isFirst_masked (row A c)))
  simp only [mask_point A c, mask_max_point A c, posInf, sixtyFour, ← sitofp_pos]
  rfl

/-- The positions a grid step stores, likewise. -/
theorem positions_point (v0 : Vec Ideal S64x2048 .f32) (v1 : Vec Ideal S64x1 .f32) (v3 : Vec Ideal S1024x2048 .f32)
    (A : FVec Ideal S64x1024 .f32) (L : Fin 64 → EReal) (s : Fin 2) (q : Fin 2048)
    (h1 : ∀ h : q.val < 1024, row (k0_pay3 v0 v1 v3) ⟨q.val, h⟩ = L)
    (h2 : ∀ h : q.val - 1024 < 1024, ¬ q.val < 1024 → row A ⟨q.val - 1024, h⟩ = L) :
    k0_pay17 (F := Ideal) A (k0_pay6 v0 v1 v3) (k0_pay9 v0 v1 v3) (ix2 s q) = topPos L s := by
  have h6 : k0_pay6 (F := Ideal) v0 v1 v3 = k0_pay13 (k0_pay3 v0 v1 v3) := rfl
  have h9 : ∀ (c : Fin 1024) (z : Fin 1), k0_pay9 (F := Ideal) v0 v1 v3 (ix2 z c) = pos (second (row (k0_pay3 v0 v1 v3) c)) := by
    intro c z
    obtain rfl : z = 0 := Subsingleton.elim _ _
    have h7 : k0_pay7 (F := Ideal) v0 v1 v3 = k0_pay14 (k0_pay3 v0 v1 v3) := rfl
    have h8 : k0_pay8 (F := Ideal) v0 v1 v3 = k0_pay15 (k0_pay3 v0 v1 v3) := rfl
    refine Eq.trans ?_ (second_point (k0_pay3 v0 v1 v3) c 0)
    rw [← h7, ← h8]
    pointwise [k0_pay9, k0_pay4]
  rw [h6]
  have h13 := first_point (k0_pay3 (F := Ideal) v0 v1 v3)
  generalize k0_pay13 (k0_pay3 (F := Ideal) v0 v1 v3) = a at h13 ⊢
  generalize k0_pay9 (F := Ideal) v0 v1 v3 = b at h9 ⊢
  pointwise [k0_pay17, k0_pay11]
  by_cases hq : q.val < 1024
  · rw [dif_pos hq]
    have e := h1 hq
    rcases (by revert s; decide : s = 0 ∨ s = 1) with rfl | rfl
    · rw [dif_pos (by decide), h13, e]
      exact fptosi_pos _
    · rw [dif_neg (by decide), h9, e]
      exact fptosi_pos _
  · rw [dif_neg hq]
    have hq' : q.val - 1024 < 1024 := by have := q.isLt; omega
    have e := h2 hq' hq
    rcases (by revert s; decide : s = 0 ∨ s = 1) with rfl | rfl
    · rw [dif_pos (by decide), first_point, e]
      exact fptosi_pos _
    · rw [dif_neg (by decide), second_point, e]
      exact fptosi_pos _

end Cert.KernelIdeal.Value
-- ==== Proof.KernelArray.lean ====
/- The arrays of values and positions that the kernel's grid leaves: at column `r`, the two results of row `r`'s logits. -/
module

public import proofs.«01_k».proof.Proof.Gen.KernelIdeal.Frame
public import proofs.«01_k».proof.Proof.KernelPoint
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.TopTwo

/-- The 64 logits of row `r`: its products with every expert's weights, summed, plus the expert's bias. -/
def logit (X : FVec Ideal S16384x2048 .f32) (W : FVec Ideal S64x2048 .f32) (B : FVec Ideal S64 .f32) (r : Fin 16384) :
    Fin 64 → EReal := fun k => ∑ d, X (ix2 r d) * W (ix2 k d) + B (ix1 k)

/-- The array of values: at `(s, r)` the softmax entry of row `r`'s greatest or second logit. -/
def vals (X : FVec Ideal S16384x2048 .f32) (W : FVec Ideal S64x2048 .f32) (B : FVec Ideal S64 .f32) :
    FVec Ideal S2x16384 .f32 := fun y => topVal (logit X W B (y 1)) (y 0)

/-- The array of positions, likewise. -/
def poss (X : FVec Ideal S16384x2048 .f32) (W : FVec Ideal S64x2048 .f32) (B : FVec Ideal S64 .f32) :
    IVec S2x16384 32 := fun y => topPos (logit X W B (y 1)) (y 0)

variable (m : (ℓ : Loc nD τ sig) → Buf (Elt Ideal) ℓ)

/-- Which block each window stages at a grid step: the two row tiles are neighbours, the outputs advance by the step. -/
theorem idx : ∀ t : Fin cfg0.N, win0_0.index t = ![2 * t.val, 0] ∧ win0_1.index t = ![2 * t.val + 1, 0]
    ∧ win0_2.index t = ![0, 0] ∧ win0_3.index t = ![0, 0] ∧ win0_4.index t = ![0, t.val] ∧ win0_5.index t = ![0, t.val] :=
  (by decide +kernel : ∀ t : Fin grid0.N, _)

/-- The bias block is the bias, one entry per expert. -/
theorem bias_block (c : Dev nD) (t : Fin cfg0.N) (k : Fin 64) :
    iblk m c 3 t (ix2 k 0) = m ((c : Thread nD τ).loc main_arg2) (ix1 k) := by
  have h : iblk m c 3 t (ix2 k 0) = V m c main_v0 (ix2 k 0) := by
    blk_point [iblk, idx t]
  rw [h]
  unfold V V0
  simp only [hostOps0, List.flatten_cons, List.flatten_nil, List.append_nil]
  after_results
  pointwise

/-- The weight block is the weights. -/
theorem weight_block (c : Dev nD) (t : Fin cfg0.N) (k : Fin 64) (d : Fin 2048) :
    iblk m c 2 t (ix2 k d) = m ((c : Thread nD τ).loc main_arg1) (ix2 k d) := by
  blk_point [iblk, V, idx t]

/-- The first row tile holds the even blocks of 1024 rows. -/
theorem first_block (c : Dev nD) (t : Fin cfg0.N) (q : Fin 1024) (d : Fin 2048) (r : Fin 16384)
    (hr : r.val = 2048 * t.val + q.val) :
    iblk m c 0 t (ix2 q d) = m ((c : Thread nD τ).loc main_arg0) (ix2 r d) := by
  blk_point [iblk, V, idx t]

/-- The second row tile holds the odd blocks. -/
theorem second_block (c : Dev nD) (t : Fin cfg0.N) (q : Fin 1024) (d : Fin 2048) (r : Fin 16384)
    (hr : r.val = 2048 * t.val + 1024 + q.val) :
    iblk m c 1 t (ix2 q d) = m ((c : Thread nD τ).loc main_arg0) (ix2 r d) := by
  blk_point [iblk, V, idx t]

/-- The first tile's logits are those of its rows. -/
theorem first_row (c : Dev nD) (t : Fin cfg0.N) (q : Fin 1024) (r : Fin 16384) (hr : r.val = 2048 * t.val + q.val) :
    row (k0_pay3 (iblk m c 2 t) (iblk m c 3 t) (iblk m c 0 t)) q
      = logit (m ((c : Thread nD τ).loc main_arg0)) (m ((c : Thread nD τ).loc main_arg1)) (m ((c : Thread nD τ).loc main_arg2)) r := by
  funext k
  refine (logit_point (iblk m c 2 t) (iblk m c 3 t) (iblk m c 0 t) k q).trans ?_
  unfold logit
  refine congrArg₂ (fun a b : EReal => a + b) (Finset.sum_congr rfl fun d _ => ?_) (bias_block m c t k)
  exact (congrArg₂ (fun a b : EReal => a * b) (weight_block m c t k d) (first_block m c t q d r hr)).trans (mul_comm _ _)

/-- The second tile's logits are those of its rows. -/
theorem second_row (c : Dev nD) (t : Fin cfg0.N) (q : Fin 1024) (r : Fin 16384) (hr : r.val = 2048 * t.val + 1024 + q.val) :
    row (k0_pay3 (iblk m c 2 t) (iblk m c 3 t) (iblk m c 1 t)) q
      = logit (m ((c : Thread nD τ).loc main_arg0)) (m ((c : Thread nD τ).loc main_arg1)) (m ((c : Thread nD τ).loc main_arg2)) r := by
  funext k
  refine (logit_point (iblk m c 2 t) (iblk m c 3 t) (iblk m c 1 t) k q).trans ?_
  unfold logit
  refine congrArg₂ (fun a b : EReal => a + b) (Finset.sum_congr rfl fun d _ => ?_) (bias_block m c t k)
  exact (congrArg₂ (fun a b : EReal => a * b) (weight_block m c t k d) (second_block m c t q d r hr)).trans (mul_comm _ _)

/-- What a grid step writes of the values is the array of values at the step's columns. -/
theorem values_step (c : Dev nD)
    (hL : ∀ r k, ∃ x : ℝ, logit (m ((c : Thread nD τ).loc main_arg0)) (m ((c : Thread nD τ).loc main_arg1)) (m ((c : Thread nD τ).loc main_arg2)) r k = (x : EReal))
    (t : Fin cfg0.N) (s : Fin 2) (q : Fin 2048) (r : Fin 16384) (hr : r.val = 2048 * t.val + q.val) :
    k0_pay16 (F := Ideal) (k0_pay3 (iblk m c 2 t) (iblk m c 3 t) (iblk m c 1 t))
      (k0_pay5 (iblk m c 2 t) (iblk m c 3 t) (iblk m c 0 t)) (k0_pay8 (iblk m c 2 t) (iblk m c 3 t) (iblk m c 0 t))
      (k0_pay10 (iblk m c 2 t) (iblk m c 3 t) (iblk m c 0 t)) (ix2 s q)
      = topVal (logit (m ((c : Thread nD τ).loc main_arg0)) (m ((c : Thread nD τ).loc main_arg1)) (m ((c : Thread nD τ).loc main_arg2)) r) s :=
  values_point _ _ _ _ _ (hL r) s q (fun h => first_row m c t ⟨q.val, h⟩ r hr)
    (fun h hq => second_row m c t ⟨q.val - 1024, h⟩ r (by rw [hr]; show _ = _ + (q.val - 1024); omega))

/-- What a grid step writes of the positions is the array of positions at the step's columns. -/
theorem positions_step (c : Dev nD) (t : Fin cfg0.N) (s : Fin 2) (q : Fin 2048) (r : Fin 16384)
    (hr : r.val = 2048 * t.val + q.val) :
    k0_pay17 (F := Ideal) (k0_pay3 (iblk m c 2 t) (iblk m c 3 t) (iblk m c 1 t))
      (k0_pay6 (iblk m c 2 t) (iblk m c 3 t) (iblk m c 0 t)) (k0_pay9 (iblk m c 2 t) (iblk m c 3 t) (iblk m c 0 t)) (ix2 s q)
      = topPos (logit (m ((c : Thread nD τ).loc main_arg0)) (m ((c : Thread nD τ).loc main_arg1)) (m ((c : Thread nD τ).loc main_arg2)) r) s :=
  positions_point _ _ _ _ _ s q (fun h => first_row m c t ⟨q.val, h⟩ r hr)
    (fun h hq => second_row m c t ⟨q.val - 1024, h⟩ r (by rw [hr]; show _ = _ + (q.val - 1024); omega))

/-- After the grid the array of values holds every row's two softmax entries. -/
theorem final_vals (c : Dev nD)
    (hL : ∀ r k, ∃ x : ℝ, logit (m ((c : Thread nD τ).loc main_arg0)) (m ((c : Thread nD τ).loc main_arg1)) (m ((c : Thread nD τ).loc main_arg2)) r k = (x : EReal)) :
    (dats m 0 c).arrAt 4 cfg0.N
      = vals (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold out0_4 k0_pay18
  frame_out
  idx_vars y
  have ht : t.val < 8 := t.isLt
  have e : (((View.whole main_v1_0).slice (win0_4.rect t)).emb (ix2 y0 y1))
      = ix2 y0 (⟨2048 * t.val + y1.val, by have := y1.isLt; omega⟩ : Fin 16384) := by
    blk_ext [idx t]
  rw [e]
  exact values_step m c hL t y0 y1 _ rfl

/-- After the grid the array of positions holds every row's two positions. -/
theorem final_poss (c : Dev nD) :
    (dats m 0 c).arrAt 5 cfg0.N
      = poss (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5 k0_pay18
  frame_out
  idx_vars y
  have ht : t.val < 8 := t.isLt
  have e : (((View.whole main_v1_1).slice (win0_5.rect t)).emb (ix2 y0 y1))
      = ix2 y0 (⟨2048 * t.val + y1.val, by have := y1.isLt; omega⟩ : Fin 16384) := by
    blk_ext [idx t]
  rw [e]
  exact positions_step m c t y0 y1 _ rfl

end Cert.KernelIdeal.Value
-- ==== Proof.KernelTail.lean ====
/- The kernel's two results after the host lines that follow the grid: each is the transpose of the array the grid's
   writes leave. -/
module

public import proofs.«01_k».proof.Proof.Gen.KernelIdeal.Frame
public import Idealize.ShloMosaic.Lib.Claim

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ) (ρ : Dev nD → PrngReg)

/-- Only the two row-tile inputs read one array, and an input's array is as the grid finds it. -/
theorem shared (c : Dev nD) (w w' : Fin cfg0.W) (hne : w ≠ w') (e : Pipeline.arrRef spec0 w = Pipeline.arrRef spec0 w') :
    (dats m 0 c).arrAt w cfg0.N = V0 m c (Proc.devRef .tc (Pipeline.arrRef spec0 w)) := by
  have h : w = 0 ∨ w = 1 := by revert w w'; decide
  rcases h with rfl | rfl
  · exact ((dats m 0 c).arrAt_in 0 rfl _).trans (A_eq m c 0)
  · exact ((dats m 0 c).arrAt_in 1 rfl _).trans (A_eq m c 1)

/-- The first result is the transpose of the array of values. -/
theorem tail_v2 (c : Dev nD) : Pipeline.afterTail₀ cfgs (dats m) 0 (V0 m) [hostOps1] c main_v2
    = transpose S16384x2 [1, 0] ((dats m 0 c).arrAt 4 cfg0.N) transposes_S2x16384_S16384x2_1_0 := by
  unfold Pipeline.afterTail₀
  simp only [hostOps1, List.flatten_cons, List.flatten_nil, List.append_nil]
  after_results
  exact congrArg (fun x => transpose S16384x2 [1, 0] x transposes_S2x16384_S16384x2_1_0)
    (Pipeline.withArrays_arr_shared spec0 c (V0 m c) (fun w => (dats m 0 c).arrAt w cfg0.N) (shared m c) 4)

/-- The second result is the transpose of the array of positions. -/
theorem tail_v3 (c : Dev nD) : Pipeline.afterTail₀ cfgs (dats m) 0 (V0 m) [hostOps1] c main_v3
    = transpose S16384x2 [1, 0] ((dats m 0 c).arrAt 5 cfg0.N) transposes_S2x16384_S16384x2_1_0 := by
  unfold Pipeline.afterTail₀
  simp only [hostOps1, List.flatten_cons, List.flatten_nil, List.append_nil]
  after_results
  exact congrArg (fun x => transpose S16384x2 [1, 0] x transposes_S2x16384_S16384x2_1_0)
    (Pipeline.withArrays_arr_shared spec0 c (V0 m c) (fun w => (dats m 0 c).arrAt w cfg0.N) (shared m c) 5)

/-- Every execution of the kernel's program ends with the two results at the transposes of what the grid's writes
    leave, and with the three arguments unchanged. -/
theorem run : θ_run defs (onTc (τ := τ) (main (F := F))) ⟨m, fun _ => 0, ρ⟩ (fun r => ∀ c : Dev nD,
      r.2.mem ((c.tc : Thread nD τ).loc main_v2) = transpose S16384x2 [1, 0] ((dats m 0 c).arrAt 4 cfg0.N) transposes_S2x16384_S16384x2_1_0
      ∧ r.2.mem ((c.tc : Thread nD τ).loc main_v3) = transpose S16384x2 [1, 0] ((dats m 0 c).arrAt 5 cfg0.N) transposes_S2x16384_S16384x2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v2 (Pipeline.mem_restRefs_of main_v2 (by decide) (by decide))).trans (tail_v2 m c),
      ((h.1 c).2 main_v3 (Pipeline.mem_restRefs_of main_v3 (by decide) (by decide))).trans (tail_v3 m c), h.2 c⟩)
    (θ_run_and (run_main m ρ) (unchanged m ρ))

end Cert.KernelIdeal.Value
-- ==== Proof.Reference.lean ====
/- The reference's two results: for every row, the two greatest softmax entries and their positions. -/
module

public import proofs.«01_k».proof.Proof.Gen.ReferenceIdeal.Run
public import proofs.«01_k».proof.Proof.TopTwo
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.TopTwo

/-- The reference's logits: the product with the transposed weights, plus the bias, times one. -/
def logits (X : FVec Ideal S16384x2048 .f32) (W : FVec Ideal S64x2048 .f32) (B : FVec Ideal S64 .f32) : FVec Ideal S16384x64 .f32 :=
  mulf (addf (Host.dotGeneral dot_S16384x2048_S2048x64_S16384x64_1_0_0_1_n_n none X (transpose S2048x64 [1, 0] W transposes_S64x2048_S2048x64_1_0)) (broadcastInDim S16384x64 ![0, 1] bcast_S1x64_S16384x64_0_1 (broadcastInDim S1x64 ![1] bcast_S64_S1x64_1 B))) (broadcastInDim S16384x64 ![] bcast_S_S16384x64 (constant S_ .f32 0x3F800000#32))

/-- Each row's maximum. -/
def rowMax (l : FVec Ideal S16384x64 .f32) : FVec Ideal S16384 .f32 :=
  maximumf (broadcastInDim S16384 ![] bcast_S_S16384 (constant S_ .f32 0xFF800000#32)) (Host.reduce FloatOps.maximumf l (constant S_ .f32 0xFF800000#32) reducesTo_S16384x64_S16384_d1 h_S_)

/-- The exponentials of each row less its maximum. -/
def exps (l : FVec Ideal S16384x64 .f32) (a : FVec Ideal S16384 .f32) : FVec Ideal S16384x64 .f32 :=
  Host.exp (subf l (broadcastInDim S16384x64 ![0, 1] bcast_S16384x1_S16384x64_0_1 (broadcastInDim S16384x1 ![0] bcast_S16384_S16384x1_0 a)))

/-- Each row's sum. -/
def rowSum (e : FVec Ideal S16384x64 .f32) : FVec Ideal S16384 .f32 :=
  Host.reduceAdd e (constant S_ .f32 0x00000000#32) reducesTo_S16384x64_S16384_d1 h_S_

/-- Each row divided by its entry of `a`. -/
def quot (e : FVec Ideal S16384x64 .f32) (a : FVec Ideal S16384 .f32) : FVec Ideal S16384x64 .f32 :=
  Host.divf e (broadcastInDim S16384x64 ![0, 1] bcast_S16384x1_S16384x64_0_1 (broadcastInDim S16384x1 ![0] bcast_S16384_S16384x1_0 a))

/-- The softmax along each row. -/
def probs (l : FVec Ideal S16384x64 .f32) : FVec Ideal S16384x64 .f32 :=
  quot (exps l (rowMax l)) (rowSum (exps l (rowMax l)))

/-- A logit is the sum of products plus the bias. -/
theorem logits_point (X : FVec Ideal S16384x2048 .f32) (W : FVec Ideal S64x2048 .f32) (B : FVec Ideal S64 .f32)
    (r : Fin 16384) (k : Fin 64) : logits X W B (ix2 r k) = ∑ d, X (ix2 r d) * W (ix2 k d) + B (ix1 k) := by
  pointwise [logits]

/-- A row's maximum is its first greatest logit. -/
theorem rowMax_point (l : FVec Ideal S16384x64 .f32) (r : Fin 16384) :
    rowMax l (ix1 r) = l (ix2 r (first fun j => l (ix2 r j))) := by
  have h := fold_max (isFirst fun j => l (ix2 r j))
  pointwise [rowMax]
  rw [negInf, h, max_eq_right bot_le]

/-- An exponential of a row less its maximum. -/
theorem exps_point (l : FVec Ideal S16384x64 .f32) (a : FVec Ideal S16384 .f32) (r : Fin 16384) (k : Fin 64) :
    exps l a (ix2 r k) = Ideal.exp (l (ix2 r k) - a (ix1 r)) := by
  pointwise [exps]

/-- A row's sum. -/
theorem rowSum_point (e : FVec Ideal S16384x64 .f32) (r : Fin 16384) : rowSum e (ix1 r) = ∑ k, e (ix2 r k) := by
  pointwise [rowSum]

/-- An entry of a row divided by its divisor. -/
theorem quot_point (e : FVec Ideal S16384x64 .f32) (a : FVec Ideal S16384 .f32) (r : Fin 16384) (k : Fin 64) :
    quot e a (ix2 r k) = Ideal.div (e (ix2 r k)) (a (ix1 r)) := by
  pointwise [quot]

/-- A softmax entry, the row's maximum being its first greatest logit. -/
theorem probs_point (l : FVec Ideal S16384x64 .f32) (r : Fin 16384) (k : Fin 64) :
    probs l (ix2 r k) = soft (fun j => l (ix2 r j)) (first fun j => l (ix2 r j)) k := by
  unfold probs soft
  simp only [quot_point, rowSum_point, exps_point, rowMax_point]

/-- Moving along a row changes the position only. -/
theorem along_row (r : Fin 16384) (s : Fin 64) (k : Fin 64) :
    Shape.Idx.along (s := S16384x64) (ix2 r s) 1 k = ix2 r k := by
  funext a
  match a with
  | 0 => rfl
  | 1 => rfl

/-- Where the sort of a row's softmax finds its first two entries. -/
theorem sorted_row (l : FVec Ideal S16384x64 .f32) (r : Fin 16384) (L : Fin 64 → EReal) (hl : (fun j => l (ix2 r j)) = L)
    (hL : ∀ k, ∃ x : ℝ, L k = (x : EReal)) (s : Fin 2) (h : s.val < 64) (z : Fin 64) :
    sortedFrom (fun k k' => FloatOps.cmpfTotal (F := Ideal) (φ := .f32) .gt (probs l (Shape.Idx.along (s := S16384x64) (ix2 r z) 1 k))
        (probs l (Shape.Idx.along (s := S16384x64) (ix2 r z) 1 k')) == 1#1) ⟨s.val, h⟩ = top L s := by
  have e : (fun k k' : Fin 64 => FloatOps.cmpfTotal (F := Ideal) (φ := .f32) .gt (probs l (Shape.Idx.along (s := S16384x64) (ix2 r z) 1 k))
        (probs l (Shape.Idx.along (s := S16384x64) (ix2 r z) 1 k')) == 1#1)
      = fun k k' => Ideal.cmpTotal .gt (soft L (first L) k) (soft L (first L) k') == 1#1 := by
    funext k k'
    rw [along_row, along_row, probs_point, probs_point, hl]
    rfl
  exact (congrFun (congrArg sortedFrom e) _).trans (sorted_soft hL s h)

/-- The reference's values: row `r`'s greatest and second softmax entry. -/
theorem values_point (l : FVec Ideal S16384x64 .f32) (r : Fin 16384) (L : Fin 64 → EReal) (hl : (fun j => l (ix2 r j)) = L)
    (hL : ∀ k, ∃ x : ℝ, L k = (x : EReal)) (s : Fin 2) :
    (Host.topK S16384x2 1 (FloatOps.cmpfTotal .gt) (probs l) sliceFits_S16384x64_S16384x2).1 (ix2 r s) = topVal L s := by
  have hs := sorted_row l r L hl hL s (by omega) ⟨s.val, by omega⟩
  have hp := probs_point l r
  generalize probs l = p at hs hp ⊢
  unfold Host.topK Host.sort2
  pointwise []
  refine (congrArg (fun k => p (Shape.Idx.along (s := S16384x64) (ix2 r ⟨s.val, by omega⟩) 1 k)) hs).trans ?_
  rw [along_row, hp, hl]
  rfl

/-- The reference's positions. -/
theorem positions_point (l : FVec Ideal S16384x64 .f32) (r : Fin 16384) (L : Fin 64 → EReal) (hl : (fun j => l (ix2 r j)) = L)
    (hL : ∀ k, ∃ x : ℝ, L k = (x : EReal)) (s : Fin 2) :
    (Host.topK S16384x2 1 (FloatOps.cmpfTotal .gt) (probs l) sliceFits_S16384x64_S16384x2).2 (ix2 r s) = topPos L s := by
  have hs := sorted_row l r L hl hL s (by omega) ⟨s.val, by omega⟩
  generalize probs l = p at hs ⊢
  unfold Host.topK Host.sort2
  pointwise []
  refine (congrArg (fun k => BitVec.ofNat 32 ((Shape.Idx.along (s := S16384x64) (ix2 r ⟨s.val, by omega⟩) 1 k) 1).val) hs).trans ?_
  rw [along_row]
  rfl

variable (m : (ℓ : Loc nD τ sig) → Buf (Elt Ideal) ℓ) (ρ : Dev nD → PrngReg)

/-- Every execution of the reference ends with its results at the two greatest of the softmax of its logits, and its
    arguments unchanged. -/
theorem run_named : θ_run defs (onTc (τ := τ) (main (F := Ideal))) ⟨m, fun _ => 0, ρ⟩ fun r => ∀ c : Dev nD,
      r.2.mem ((c.tc : Thread nD τ).loc main_values) = (Host.topK S16384x2 1 (FloatOps.cmpfTotal .gt) (probs (logits (m ((c.tc : Thread nD τ).loc main_arg0)) (m ((c.tc : Thread nD τ).loc main_arg1)) (m ((c.tc : Thread nD τ).loc main_arg2)))) sliceFits_S16384x64_S16384x2).1
      ∧ r.2.mem ((c.tc : Thread nD τ).loc main_indices) = (Host.topK S16384x2 1 (FloatOps.cmpfTotal .gt) (probs (logits (m ((c.tc : Thread nD τ).loc main_arg0)) (m ((c.tc : Thread nD τ).loc main_arg1)) (m ((c.tc : Thread nD τ).loc main_arg2)))) sliceFits_S16384x64_S16384x2).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold probs logits quot rowSum exps rowMax
  exact run m ρ

end Cert.ReferenceIdeal.Value
-- ==== Proof.Equal.lean ====
/- The kernel's results and the reference's are equal on real arguments. -/
module

public import proofs.«01_k».proof.Proof.Finite
public import proofs.«01_k».proof.Proof.KernelArray
public import proofs.«01_k».proof.Proof.KernelTail
public import proofs.«01_k».proof.Proof.Reference

@[expose] public section

set_option maxRecDepth 16384

noncomputable section

namespace Cert.Proof

open Idealize.ShloMosaic Idealize.ShloMosaic.TcCoe Idealize.SL.Sem
open Cert.TopTwo

section Terms

open Cert.KernelIdeal Cert.KernelIdeal.Gen Cert.KernelIdeal.Value

/-- With real arguments every logit is real. -/
theorem logit_real (X : FVec Ideal S16384x2048 .f32) (W : FVec Ideal S64x2048 .f32) (B : FVec Ideal S64 .f32)
    (h : Cert.Pre_finite.fn X W B = fun _ => 1#1) (r : Fin 16384) (k : Fin 64) : ∃ x : ℝ, logit X W B r k = (x : EReal) := by
  obtain ⟨hX, hW, hB⟩ := Cert.Finite.reals X W B h
  choose x hx using hX r
  choose w hw using hW k
  obtain ⟨b, hb⟩ := hB k
  refine ⟨∑ d, x d * w d + b, ?_⟩
  unfold logit
  rw [hb, EReal.coe_add]
  congr 1
  refine (Finset.sum_congr rfl fun d _ => ?_).trans
    (map_sum (⟨⟨Real.toEReal, EReal.coe_zero⟩, EReal.coe_add⟩ : ℝ →+ EReal) (fun d => x d * w d) Finset.univ).symm
  rw [hx, hw]
  exact (EReal.coe_mul _ _).symm

/-- The transposed array of values is the reference's values. -/
theorem values_eq (X : FVec Ideal S16384x2048 .f32) (W : FVec Ideal S64x2048 .f32) (B : FVec Ideal S64 .f32)
    (h : ∀ r k, ∃ x : ℝ, logit X W B r k = (x : EReal)) :
    (Host.topK Cert.ReferenceIdeal.S16384x2 1 (FloatOps.cmpfTotal .gt)
      (Cert.ReferenceIdeal.Value.probs (Cert.ReferenceIdeal.Value.logits X W B)) Cert.ReferenceIdeal.Gen.sliceFits_S16384x64_S16384x2).1
      = transpose S16384x2 [1, 0] (vals X W B) transposes_S2x16384_S16384x2_1_0 := by
  funext y
  idx_vars y
  refine (Cert.ReferenceIdeal.Value.values_point _ y0 (logit X W B y0)
    (funext fun k => Cert.ReferenceIdeal.Value.logits_point X W B y0 k) (h y0) y1).trans ?_
  pointwise []
  rfl

/-- The transposed array of positions is the reference's positions. -/
theorem positions_eq (X : FVec Ideal S16384x2048 .f32) (W : FVec Ideal S64x2048 .f32) (B : FVec Ideal S64 .f32)
    (h : ∀ r k, ∃ x : ℝ, logit X W B r k = (x : EReal)) :
    (Host.topK Cert.ReferenceIdeal.S16384x2 1 (FloatOps.cmpfTotal .gt)
      (Cert.ReferenceIdeal.Value.probs (Cert.ReferenceIdeal.Value.logits X W B)) Cert.ReferenceIdeal.Gen.sliceFits_S16384x64_S16384x2).2
      = transpose S16384x2 [1, 0] (poss X W B) transposes_S2x16384_S16384x2_1_0 := by
  funext y
  idx_vars y
  refine (Cert.ReferenceIdeal.Value.positions_point _ y0 (logit X W B y0)
    (funext fun k => Cert.ReferenceIdeal.Value.logits_point X W B y0 k) (h y0) y1).trans ?_
  pointwise []
  rfl

end Terms

/-- From any memory with real arguments the kernel's program and the reference end with equal results, and with their
    arguments unchanged. -/
theorem algebraic : Cert.algebraic_KernelIdeal_ReferenceIdeal_pre_finite := by
  intro m g m' g' hpre hagree
  have hL := fun c => logit_real _ _ _ (hpre c)
  refine ⟨fun c => transpose Cert.KernelIdeal.S16384x2 [1, 0] (Cert.KernelIdeal.Value.vals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) Cert.KernelIdeal.Gen.transposes_S2x16384_S16384x2_1_0,
    fun c => transpose Cert.KernelIdeal.S16384x2 [1, 0] (Cert.KernelIdeal.Value.poss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) Cert.KernelIdeal.Gen.transposes_S2x16384_S16384x2_1_0, ?_, ?_⟩
  · refine (θ_run Cert.KernelIdeal.defs _ _).mono (fun r h c => ?_) (Cert.KernelIdeal.Value.run m g)
    obtain ⟨h0, h1, h2⟩ := h c
    rw [Cert.KernelIdeal.Value.final_vals m c (hL c)] at h0
    rw [Cert.KernelIdeal.Value.final_poss m c] at h1
    exact ⟨h0, h1, h2⟩
  · refine (θ_run Cert.ReferenceIdeal.defs _ _).mono (fun r h c => ?_) (Cert.ReferenceIdeal.Value.run_named m' g')
    obtain ⟨h0, h1, h2⟩ := h c
    obtain ⟨a0, a1, a2⟩ := hagree c
    rw [a0, a1, a2] at h0 h1
    exact ⟨h0.trans (values_eq _ _ _ (hL c)), h1.trans (positions_eq _ _ _ (hL c)), h2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs to its end from any memory: its arguments are unchanged and every semaphore counter is zero. -/
theorem reference_frame : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- All the claims: the frames, the ideal instance's preservation of the program, and the equality of the results. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
